-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S96x1x8192 : Shape := ⟨3, ![96, 1, 8192]⟩
abbrev S8192x896 : Shape := ⟨2, ![8192, 896]⟩
abbrev S896 : Shape := ⟨1, ![896]⟩
abbrev S7168 : Shape := ⟨1, ![7168]⟩
abbrev S_ : Shape := ⟨0, ![]⟩

class Facts : Prop where
  bcast_S_S96x1x8192 : S_.BroadcastsInDim S96x1x8192 (![] : Fin 0 → Fin S96x1x8192.rank)

variable [Facts]

def fn {F : FTy → Type} [FloatOps F] (main_arg0 : FVec F S96x1x8192 .bf16) (main_arg1 : IVec S8192x896 32) (main_arg2 : IVec S896 32) (main_arg3 : FVec F S7168 .bf16) : IVec S96x1x8192 1 :=
  let main_v0 : FVec F S96x1x8192 .bf16 := Host.absf main_arg0
  let main_cst : FVec F S_ .bf16 := constant S_ .bf16 0x7F80#16
  let main_v1 : FVec F S96x1x8192 .bf16 := broadcastInDim S96x1x8192 ![] bcast_S_S96x1x8192 main_cst
  let main_v2 : IVec S96x1x8192 1 := cmpf .olt main_v0 main_v1
  main_v2
-- ==== Kernel.lean ====
abbrev S96x1x8192 : Shape := ⟨3, ![96, 1, 8192]⟩
abbrev S8192x896 : Shape := ⟨2, ![8192, 896]⟩
abbrev S896 : Shape := ⟨1, ![896]⟩
abbrev S7168 : Shape := ⟨1, ![7168]⟩
abbrev S8 : Shape := ⟨1, ![8]⟩
abbrev S96x8192 : Shape := ⟨2, ![96, 8192]⟩
abbrev S896x8 : Shape := ⟨2, ![896, 8]⟩
abbrev S8x896 : Shape := ⟨2, ![8, 896]⟩
abbrev S_ : Shape := ⟨0, ![]⟩
abbrev S8x1 : Shape := ⟨2, ![8, 1]⟩
abbrev S1x896 : Shape := ⟨2, ![1, 896]⟩
abbrev S8x96x896 : Shape := ⟨3, ![8, 96, 896]⟩
abbrev S8192x128 : Shape := ⟨2, ![8192, 128]⟩
abbrev S1x128 : Shape := ⟨2, ![1, 128]⟩
abbrev S8x128 : Shape := ⟨2, ![8, 128]⟩
abbrev S8x96x128 : Shape := ⟨3, ![8, 96, 128]⟩
abbrev S96x128 : Shape := ⟨2, ![96, 128]⟩
abbrev S96x256 : Shape := ⟨2, ![96, 256]⟩
abbrev S256x128 : Shape := ⟨2, ![256, 128]⟩
abbrev S128x128 : Shape := ⟨2, ![128, 128]⟩
abbrev S64x128 : Shape := ⟨2, ![64, 128]⟩
abbrev S256x256 : Shape := ⟨2, ![256, 256]⟩
abbrev S96 : Shape := ⟨1, ![96]⟩
abbrev S96x1 : Shape := ⟨2, ![96, 1]⟩
abbrev S128 : Shape := ⟨1, ![128]⟩
abbrev S1x96x128 : Shape := ⟨3, ![1, 96, 128]⟩
abbrev S1x96x896 : Shape := ⟨3, ![1, 96, 896]⟩
abbrev S96x896 : Shape := ⟨2, ![96, 896]⟩
abbrev S96x896x1 : Shape := ⟨3, ![96, 896, 1]⟩
abbrev S96x896x8 : Shape := ⟨3, ![96, 896, 8]⟩
abbrev S96x1x7168 : Shape := ⟨3, ![96, 1, 7168]⟩

abbrev nBuf : Space → Nat
  | .hbm => 45
  | .vmem => 9
  | .smem => 0
  | _ => 0

abbrev bufTy : (tb : Table) → Fin (tcTables nBuf tb) → BufTy
  | .hbm, ⟨0, _⟩ => ⟨S96x1x8192, .bf16⟩
  | .hbm, ⟨1, _⟩ => ⟨S8192x896, .i32⟩
  | .hbm, ⟨2, _⟩ => ⟨S896, .i32⟩
  | .hbm, ⟨3, _⟩ => ⟨S7168, .bf16⟩
  | .hbm, ⟨4, _⟩ => ⟨S8, .i32⟩
  | .hbm, ⟨5, _⟩ => ⟨S96x8192, .bf16⟩
  | .hbm, ⟨6, _⟩ => ⟨S896x8, .bf16⟩
  | .hbm, ⟨7, _⟩ => ⟨S8x896, .bf16⟩
  | .hbm, ⟨8, _⟩ => ⟨S_, .i32⟩
  | .hbm, ⟨9, _⟩ => ⟨S8, .i32⟩
  | .hbm, ⟨10, _⟩ => ⟨S8, .i1⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S8, .i32⟩
  | .hbm, ⟨15, _⟩ => ⟨S8x1, .i32⟩
  | .hbm, ⟨16, _⟩ => ⟨S8x896, .bf16⟩
  | .hbm, ⟨17, _⟩ => ⟨S1x896, .i32⟩
  | .hbm, ⟨18, _⟩ => ⟨S8x96x896, .bf16⟩
  | .hbm, ⟨19, _⟩ => ⟨S1x96x896, .bf16⟩
  | .hbm, ⟨20, _⟩ => ⟨S96x896, .bf16⟩
  | .hbm, ⟨21, _⟩ => ⟨S1x96x896, .bf16⟩
  | .hbm, ⟨22, _⟩ => ⟨S96x896, .bf16⟩
  | .hbm, ⟨23, _⟩ => ⟨S1x96x896, .bf16⟩
  | .hbm, ⟨24, _⟩ => ⟨S96x896, .bf16⟩
  | .hbm, ⟨25, _⟩ => ⟨S1x96x896, .bf16⟩
  | .hbm, ⟨26, _⟩ => ⟨S96x896, .bf16⟩
  | .hbm, ⟨27, _⟩ => ⟨S1x96x896, .bf16⟩
  | .hbm, ⟨28, _⟩ => ⟨S96x896, .bf16⟩
  | .hbm, ⟨29, _⟩ => ⟨S1x96x896, .bf16⟩
  | .hbm, ⟨30, _⟩ => ⟨S96x896, .bf16⟩
  | .hbm, ⟨31, _⟩ => ⟨S1x96x896, .bf16⟩
  | .hbm, ⟨32, _⟩ => ⟨S96x896, .bf16⟩
  | .hbm, ⟨33, _⟩ => ⟨S1x96x896, .bf16⟩
  | .hbm, ⟨34, _⟩ => ⟨S96x896, .bf16⟩
  | .hbm, ⟨35, _⟩ => ⟨S96x896x1, .bf16⟩
  | .hbm, ⟨36, _⟩ => ⟨S96x896x1, .bf16⟩
  | .hbm, ⟨37, _⟩ => ⟨S96x896x1, .bf16⟩
  | .hbm, ⟨38, _⟩ => ⟨S96x896x1, .bf16⟩
  | .hbm, ⟨39, _⟩ => ⟨S96x896x1, .bf16⟩
  | .hbm, ⟨40, _⟩ => ⟨S96x896x1, .bf16⟩
  | .hbm, ⟨41, _⟩ => ⟨S96x896x1, .bf16⟩
  | .hbm, ⟨42, _⟩ => ⟨S96x896x1, .bf16⟩
  | .hbm, ⟨43, _⟩ => ⟨S96x896x8, .bf16⟩
  | .hbm, ⟨44, _⟩ => ⟨S96x1x7168, .bf16⟩
  | .local _ .vmem, ⟨0, _⟩ => ⟨S96x8192, .bf16⟩
  | .local _ .vmem, ⟨1, _⟩ => ⟨S8192x128, .i32⟩
  | .local _ .vmem, ⟨2, _⟩ => ⟨S8192x128, .i32⟩
  | .local _ .vmem, ⟨3, _⟩ => ⟨S1x128, .i32⟩
  | .local _ .vmem, ⟨4, _⟩ => ⟨S1x128, .i32⟩
  | .local _ .vmem, ⟨5, _⟩ => ⟨S8x128, .bf16⟩
  | .local _ .vmem, ⟨6, _⟩ => ⟨S8x128, .bf16⟩
  | .local _ .vmem, ⟨7, _⟩ => ⟨S8x96x128, .bf16⟩
  | .local _ .vmem, ⟨8, _⟩ => ⟨S8x96x128, .bf16⟩
  | _, _ => ⟨S96x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S96x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x96x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S96x1x8192 : Shape := ⟨3, ![96, 1, 8192]⟩
abbrev S8192x896 : Shape := ⟨2, ![8192, 896]⟩
abbrev S896 : Shape := ⟨1, ![896]⟩
abbrev S7168 : Shape := ⟨1, ![7168]⟩
abbrev S96x8192 : Shape := ⟨2, ![96, 8192]⟩
abbrev S_ : Shape := ⟨0, ![]⟩
abbrev S96 : Shape := ⟨1, ![96]⟩
abbrev S96x1 : Shape := ⟨2, ![96, 1]⟩
abbrev S896x8 : Shape := ⟨2, ![896, 8]⟩
abbrev S96x896 : Shape := ⟨2, ![96, 896]⟩
abbrev S896x1 : Shape := ⟨2, ![896, 1]⟩
abbrev S1x896 : Shape := ⟨2, ![1, 896]⟩
abbrev S96x896x1 : Shape := ⟨3, ![96, 896, 1]⟩
abbrev S96x896x8 : Shape := ⟨3, ![96, 896, 8]⟩
abbrev S96x1x7168 : Shape := ⟨3, ![96, 1, 7168]⟩

abbrev nBuf : Space → Nat
  | .hbm => 222
  | .vmem => 0
  | .smem => 0
  | _ => 0

abbrev hbmTy0_0 (i : Nat) : BufTy := match i % 128 with
  | 0 => ⟨S96x1x8192, .bf16⟩
  | 1 => ⟨S8192x896, .i32⟩
  | 2 => ⟨S896, .i32⟩
  | 3 => ⟨S7168, .bf16⟩
  | 4 => ⟨S96x8192, .bf16⟩
  | 5 => ⟨S96x8192, .f32⟩
  | 6 => ⟨S_, .f32⟩
  | 7 => ⟨S96, .f32⟩
  | 8 => ⟨S96x1, .f32⟩
  | 9 => ⟨S896x8, .bf16⟩
  | 10 => ⟨S896x8, .f32⟩
  | 11 => ⟨S_, .i32⟩
  | 12 => ⟨S8192x896, .i32⟩
  | 13 => ⟨S8192x896, .i32⟩
  | 14 => ⟨S_, .i32⟩
  | 15 => ⟨S8192x896, .i32⟩
  | 16 => ⟨S8192x896, .i32⟩
  | 17 => ⟨S8192x896, .bf16⟩
  | 18 => ⟨S96x896, .f32⟩
  | 19 => ⟨S_, .i32⟩
  | 20 => ⟨S896, .i32⟩
  | 21 => ⟨S896, .i32⟩
  | 22 => ⟨S_, .i32⟩
  | 23 => ⟨S896, .i32⟩
  | 24 => ⟨S896, .i32⟩
  | 25 => ⟨S896, .f32⟩
  | 26 => ⟨S896x1, .f32⟩
  | 27 => ⟨S896, .f32⟩
  | 28 => ⟨S1x896, .f32⟩
  | 29 => ⟨S96x896, .f32⟩
  | 30 => ⟨S96x896, .f32⟩
  | 31 => ⟨S96x896, .f32⟩
  | 32 => ⟨S96x896, .f32⟩
  | 33 => ⟨S1x896, .f32⟩
  | 34 => ⟨S96x896, .f32⟩
  | 35 => ⟨S96x896, .f32⟩
  | 36 => ⟨S_, .i32⟩
  | 37 => ⟨S8192x896, .i32⟩
  | 38 => ⟨S8192x896, .i32⟩
  | 39 => ⟨S_, .i32⟩
  | 40 => ⟨S8192x896, .i32⟩
  | 41 => ⟨S8192x896, .i32⟩
  | 42 => ⟨S8192x896, .bf16⟩
  | 43 => ⟨S96x896, .f32⟩
  | 44 => ⟨S_, .i32⟩
  | 45 => ⟨S896, .i32⟩
  | 46 => ⟨S896, .i32⟩
  | 47 => ⟨S_, .i32⟩
  | 48 => ⟨S896, .i32⟩
  | 49 => ⟨S896, .i32⟩
  | 50 => ⟨S896, .f32⟩
  | 51 => ⟨S896x1, .f32⟩
  | 52 => ⟨S896, .f32⟩
  | 53 => ⟨S1x896, .f32⟩
  | 54 => ⟨S96x896, .f32⟩
  | 55 => ⟨S96x896, .f32⟩
  | 56 => ⟨S96x896, .f32⟩
  | 57 => ⟨S96x896, .f32⟩
  | 58 => ⟨S1x896, .f32⟩
  | 59 => ⟨S96x896, .f32⟩
  | 60 => ⟨S96x896, .f32⟩
  | 61 => ⟨S_, .i32⟩
  | 62 => ⟨S8192x896, .i32⟩
  | 63 => ⟨S8192x896, .i32⟩
  | 64 => ⟨S_, .i32⟩
  | 65 => ⟨S8192x896, .i32⟩
  | 66 => ⟨S8192x896, .i32⟩
  | 67 => ⟨S8192x896, .bf16⟩
  | 68 => ⟨S96x896, .f32⟩
  | 69 => ⟨S_, .i32⟩
  | 70 => ⟨S896, .i32⟩
  | 71 => ⟨S896, .i32⟩
  | 72 => ⟨S_, .i32⟩
  | 73 => ⟨S896, .i32⟩
  | 74 => ⟨S896, .i32⟩
  | 75 => ⟨S896, .f32⟩
  | 76 => ⟨S896x1, .f32⟩
  | 77 => ⟨S896, .f32⟩
  | 78 => ⟨S1x896, .f32⟩
  | 79 => ⟨S96x896, .f32⟩
  | 80 => ⟨S96x896, .f32⟩
  | 81 => ⟨S96x896, .f32⟩
  | 82 => ⟨S96x896, .f32⟩
  | 83 => ⟨S1x896, .f32⟩
  | 84 => ⟨S96x896, .f32⟩
  | 85 => ⟨S96x896, .f32⟩
  | 86 => ⟨S_, .i32⟩
  | 87 => ⟨S8192x896, .i32⟩
  | 88 => ⟨S8192x896, .i32⟩
  | 89 => ⟨S_, .i32⟩
  | 90 => ⟨S8192x896, .i32⟩
  | 91 => ⟨S8192x896, .i32⟩
  | 92 => ⟨S8192x896, .bf16⟩
  | 93 => ⟨S96x896, .f32⟩
  | 94 => ⟨S_, .i32⟩
  | 95 => ⟨S896, .i32⟩
  | 96 => ⟨S896, .i32⟩
  | 97 => ⟨S_, .i32⟩
  | 98 => ⟨S896, .i32⟩
  | 99 => ⟨S896, .i32⟩
  | 100 => ⟨S896, .f32⟩
  | 101 => ⟨S896x1, .f32⟩
  | 102 => ⟨S896, .f32⟩
  | 103 => ⟨S1x896, .f32⟩
  | 104 => ⟨S96x896, .f32⟩
  | 105 => ⟨S96x896, .f32⟩
  | 106 => ⟨S96x896, .f32⟩
  | 107 => ⟨S96x896, .f32⟩
  | 108 => ⟨S1x896, .f32⟩
  | 109 => ⟨S96x896, .f32⟩
  | 110 => ⟨S96x896, .f32⟩
  | 111 => ⟨S_, .i32⟩
  | 112 => ⟨S8192x896, .i32⟩
  | 113 => ⟨S8192x896, .i32⟩
  | 114 => ⟨S_, .i32⟩
  | 115 => ⟨S8192x896, .i32⟩
  | 116 => ⟨S8192x896, .i32⟩
  | 117 => ⟨S8192x896, .bf16⟩
  | 118 => ⟨S96x896, .f32⟩
  | 119 => ⟨S_, .i32⟩
  | 120 => ⟨S896, .i32⟩
  | 121 => ⟨S896, .i32⟩
  | 122 => ⟨S_, .i32⟩
  | 123 => ⟨S896, .i32⟩
  | 124 => ⟨S896, .i32⟩
  | 125 => ⟨S896, .f32⟩
  | 126 => ⟨S896x1, .f32⟩
  | 127 => ⟨S896, .f32⟩
  | _ => ⟨S96x1x8192, .bf16⟩

abbrev hbmTy0_1 (i : Nat) : BufTy := match i % 128 with
  | 0 => ⟨S1x896, .f32⟩
  | 1 => ⟨S96x896, .f32⟩
  | 2 => ⟨S96x896, .f32⟩
  | 3 => ⟨S96x896, .f32⟩
  | 4 => ⟨S96x896, .f32⟩
  | 5 => ⟨S1x896, .f32⟩
  | 6 => ⟨S96x896, .f32⟩
  | 7 => ⟨S96x896, .f32⟩
  | 8 => ⟨S_, .i32⟩
  | 9 => ⟨S8192x896, .i32⟩
  | 10 => ⟨S8192x896, .i32⟩
  | 11 => ⟨S_, .i32⟩
  | 12 => ⟨S8192x896, .i32⟩
  | 13 => ⟨S8192x896, .i32⟩
  | 14 => ⟨S8192x896, .bf16⟩
  | 15 => ⟨S96x896, .f32⟩
  | 16 => ⟨S_, .i32⟩
  | 17 => ⟨S896, .i32⟩
  | 18 => ⟨S896, .i32⟩
  | 19 => ⟨S_, .i32⟩
  | 20 => ⟨S896, .i32⟩
  | 21 => ⟨S896, .i32⟩
  | 22 => ⟨S896, .f32⟩
  | 23 => ⟨S896x1, .f32⟩
  | 24 => ⟨S896, .f32⟩
  | 25 => ⟨S1x896, .f32⟩
  | 26 => ⟨S96x896, .f32⟩
  | 27 => ⟨S96x896, .f32⟩
  | 28 => ⟨S96x896, .f32⟩
  | 29 => ⟨S96x896, .f32⟩
  | 30 => ⟨S1x896, .f32⟩
  | 31 => ⟨S96x896, .f32⟩
  | 32 => ⟨S96x896, .f32⟩
  | 33 => ⟨S_, .i32⟩
  | 34 => ⟨S8192x896, .i32⟩
  | 35 => ⟨S8192x896, .i32⟩
  | 36 => ⟨S_, .i32⟩
  | 37 => ⟨S8192x896, .i32⟩
  | 38 => ⟨S8192x896, .i32⟩
  | 39 => ⟨S8192x896, .bf16⟩
  | 40 => ⟨S96x896, .f32⟩
  | 41 => ⟨S_, .i32⟩
  | 42 => ⟨S896, .i32⟩
  | 43 => ⟨S896, .i32⟩
  | 44 => ⟨S_, .i32⟩
  | 45 => ⟨S896, .i32⟩
  | 46 => ⟨S896, .i32⟩
  | 47 => ⟨S896, .f32⟩
  | 48 => ⟨S896x1, .f32⟩
  | 49 => ⟨S896, .f32⟩
  | 50 => ⟨S1x896, .f32⟩
  | 51 => ⟨S96x896, .f32⟩
  | 52 => ⟨S96x896, .f32⟩
  | 53 => ⟨S96x896, .f32⟩
  | 54 => ⟨S96x896, .f32⟩
  | 55 => ⟨S1x896, .f32⟩
  | 56 => ⟨S96x896, .f32⟩
  | 57 => ⟨S96x896, .f32⟩
  | 58 => ⟨S_, .i32⟩
  | 59 => ⟨S8192x896, .i32⟩
  | 60 => ⟨S8192x896, .i32⟩
  | 61 => ⟨S_, .i32⟩
  | 62 => ⟨S8192x896, .i32⟩
  | 63 => ⟨S8192x896, .i32⟩
  | 64 => ⟨S8192x896, .bf16⟩
  | 65 => ⟨S96x896, .f32⟩
  | 66 => ⟨S_, .i32⟩
  | 67 => ⟨S896, .i32⟩
  | 68 => ⟨S896, .i32⟩
  | 69 => ⟨S_, .i32⟩
  | 70 => ⟨S896, .i32⟩
  | 71 => ⟨S896, .i32⟩
  | 72 => ⟨S896, .f32⟩
  | 73 => ⟨S896x1, .f32⟩
  | 74 => ⟨S896, .f32⟩
  | 75 => ⟨S1x896, .f32⟩
  | 76 => ⟨S96x896, .f32⟩
  | 77 => ⟨S96x896, .f32⟩
  | 78 => ⟨S96x896, .f32⟩
  | 79 => ⟨S96x896, .f32⟩
  | 80 => ⟨S1x896, .f32⟩
  | 81 => ⟨S96x896, .f32⟩
  | 82 => ⟨S96x896, .f32⟩
  | 83 => ⟨S96x896x1, .f32⟩
  | 84 => ⟨S96x896x1, .f32⟩
  | 85 => ⟨S96x896x1, .f32⟩
  | 86 => ⟨S96x896x1, .f32⟩
  | 87 => ⟨S96x896x1, .f32⟩
  | 88 => ⟨S96x896x1, .f32⟩
  | 89 => ⟨S96x896x1, .f32⟩
  | 90 => ⟨S96x896x1, .f32⟩
  | 91 => ⟨S96x896x8, .f32⟩
  | 92 => ⟨S96x1x7168, .f32⟩
  | 93 => ⟨S96x1x7168, .bf16⟩
  | _ => ⟨S96x1x8192, .bf16⟩

abbrev hbmTy (i : Nat) : BufTy := match i / 128 with
  | 0 => hbmTy0_0 i
  | 1 => hbmTy0_1 i
  | _ => ⟨S96x1x8192, .bf16⟩

abbrev bufTy : (tb : Table) → Fin (tcTables nBuf tb) → BufTy
  | .hbm, ⟨i, _⟩ => hbmTy i
  | _, _ => ⟨S96x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_7 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_9 : Ref sig .tc := ⟨.hbm, 69, rfl⟩
abbrev main_v54 : Ref sig .tc := ⟨.hbm, 70, rfl⟩
abbrev main_v55 : Ref sig .tc := ⟨.hbm, 71, rfl⟩
abbrev main_c_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_c_11 : Ref sig .tc := ⟨.hbm, 86, rfl⟩
abbrev main_v69 : Ref sig .tc := ⟨.hbm, 87, rfl⟩
abbrev main_v70 : Ref sig .tc := ⟨.hbm, 88, rfl⟩
abbrev main_c_12 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_c_13 : Ref sig .tc := ⟨.hbm, 94, rfl⟩
abbrev main_v75 : Ref sig .tc := ⟨.hbm, 95, rfl⟩
abbrev main_v76 : Ref sig .tc := ⟨.hbm, 96, rfl⟩
abbrev main_c_14 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_c_15 : Ref sig .tc := ⟨.hbm, 111, rfl⟩
abbrev main_v90 : Ref sig .tc := ⟨.hbm, 112, rfl⟩
abbrev main_v91 : Ref sig .tc := ⟨.hbm, 113, rfl⟩
abbrev main_c_16 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_c_17 : Ref sig .tc := ⟨.hbm, 119, rfl⟩
abbrev main_v96 : Ref sig .tc := ⟨.hbm, 120, rfl⟩
abbrev main_v97 : Ref sig .tc := ⟨.hbm, 121, rfl⟩
abbrev main_c_18 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_c_19 : Ref sig .tc := ⟨.hbm, 136, rfl⟩
abbrev main_v111 : Ref sig .tc := ⟨.hbm, 137, rfl⟩
abbrev main_v112 : Ref sig .tc := ⟨.hbm, 138, rfl⟩
abbrev main_c_20 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_c_21 : Ref sig .tc := ⟨.hbm, 144, rfl⟩
abbrev main_v117 : Ref sig .tc := ⟨.hbm, 145, rfl⟩
abbrev main_v118 : Ref sig .tc := ⟨.hbm, 146, rfl⟩
abbrev main_c_22 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_c_23 : Ref sig .tc := ⟨.hbm, 161, rfl⟩
abbrev main_v132 : Ref sig .tc := ⟨.hbm, 162, rfl⟩
abbrev main_v133 : Ref sig .tc := ⟨.hbm, 163, rfl⟩
abbrev main_c_24 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_c_25 : Ref sig .tc := ⟨.hbm, 169, rfl⟩
abbrev main_v138 : Ref sig .tc := ⟨.hbm, 170, rfl⟩
abbrev main_v139 : Ref sig .tc := ⟨.hbm, 171, rfl⟩
abbrev main_c_26 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_c_27 : Ref sig .tc := ⟨.hbm, 186, rfl⟩
abbrev main_v153 : Ref sig .tc := ⟨.hbm, 187, rfl⟩
abbrev main_v154 : Ref sig .tc := ⟨.hbm, 188, rfl⟩
abbrev main_c_28 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_c_29 : Ref sig .tc := ⟨.hbm, 194, rfl⟩
abbrev main_v159 : Ref sig .tc := ⟨.hbm, 195, rfl⟩
abbrev main_v160 : Ref sig .tc := ⟨.hbm, 196, rfl⟩
abbrev main_c_30 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩

abbrev nD : Nat := 1
abbrev τ : Topo := Topo.v7x

variable {F : FTy → Type} [FloatOps F]
-- ==== Proof.Tile.lean ====
/-
  What one grid point of the kernel computes, written once for all tiles and all nibbles. The kernel's body is
  unrolled: 32 tiles of 256 rows of packed words, four byte positions of each word, two nibbles of each byte. Here the
  words of a tile, a byte position of them, the two nibbles of a byte and the product of a tile are definitions
  over a tile's number, and the theorems say that the printed values are these definitions.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof

open Idealize.ShloMosaic Idealize.SL.Sem Cert.KernelIdeal Cert.KernelIdeal.Gen

variable {F : FTy → Type} [FloatOps F]

/-- Columns `256 k .. 256 k + 255` of the input rows. -/
abbrev rx (k : ℕ) : Rect S96x8192 :=
  Rect.unit (s := S96x8192) ![0, 256 * (k % 32)] S96x256.size (fun a => by
    match a with
    | ⟨0, _⟩ => exact Nat.le_refl 96
    | ⟨1, _⟩ => show 256 * (k % 32) + 256 ≤ 8192; omega)

/-- Rows `256 k .. 256 k + 255` of the packed words. -/
abbrev rw' (k : ℕ) : Rect S8192x128 :=
  Rect.unit (s := S8192x128) ![256 * (k % 32), 0] S256x128.size (fun a => by
    match a with
    | ⟨0, _⟩ => show 256 * (k % 32) + 256 ≤ 8192; omega
    | ⟨1, _⟩ => exact Nat.le_refl 128)

/-- The input's tile `k`. -/
def xTile (x0 : Vec F S96x8192 .bf16) (k : ℕ) : FVec F S96x256 .bf16 :=
  shapeCast S96x256 (View.ld x0 (rx k)) shapeCasts_S96x256_S96x256

/-- The words with the top bit of every nibble flipped. -/
def flip (w : IVec S256x128 32) : IVec S256x128 32 := xori w (broadcast S256x128 2290649224#32)

/-- The low halves of the flipped words. -/
def lowHalf (w : IVec S256x128 32) : IVec S256x128 16 := trunci 16 (flip w) natLt_16_32

/-- The high halves of the flipped words. -/
def highHalf (w : IVec S256x128 32) : IVec S256x128 16 :=
  trunci 16 (shrui (flip w) (broadcast S256x128 16#32)) natLt_16_32

/-- The low bytes of half words. -/
def lowByte (h : IVec S256x128 16) : IVec S256x128 8 := trunci 8 h natLt_8_16

/-- The high bytes of half words: two rows are read as one row of words, shifted by a byte and read back. -/
def highByte (h : IVec S256x128 16) : IVec S256x128 8 :=
  trunci 8 (bitcast S256x128 16 (shrui (bitcast S128x128 32 h bitcasts_S256x128_w16_S128x128_w32)
    (broadcast S128x128 8#32)) bitcasts_S128x128_w32_S256x128_w16) natLt_8_16

/-- The low nibbles of bytes. -/
def lowNib (b : IVec S256x128 8) : IVec S256x128 4 := trunci 4 b natLt_4_8

/-- The high nibbles of bytes: four rows are read as one row of words, shifted by a nibble and read back. -/
def highNib (b : IVec S256x128 8) : IVec S256x128 4 :=
  trunci 4 (bitcast S256x128 8 (shrui (bitcast S64x128 32 b bitcasts_S256x128_w8_S64x128_w32)
    (broadcast S64x128 4#32)) bitcasts_S64x128_w32_S256x128_w8) natLt_4_8

/-- Byte `t` of the flipped words. -/
def byteAt : Fin 4 → IVec S256x128 32 → IVec S256x128 8
  | 0, w => lowByte (lowHalf w)
  | 1, w => highByte (lowHalf w)
  | 2, w => lowByte (highHalf w)
  | 3, w => highByte (highHalf w)

/-- A tile's product: the input's tile times the low nibbles (128 columns) and the high nibbles (128 columns) of the
    bytes, each read as a signed number. -/
def prod (x : FVec F S96x256 .bf16) (b : IVec S256x128 8) : FVec F S96x256 .f32 :=
  matmul dot_S96x256_S256x256_S96x256_1_0_0_1_n_n none x
    (concatenate S256x256 1 [⟨S256x128, sitofp (F := F) .bf16 (lowNib b)⟩, ⟨S256x128, sitofp .bf16 (highNib b)⟩]
      concatenates_S256x128_S256x128_S256x256_d1)
    (constant S96x256 .f32 0x00000000#32)

/-- The product of tile `k` at byte `t`. -/
def tileProd (x0 : Vec F S96x8192 .bf16) (x1 : Vec F S8192x128 .i32) (t : Fin 4) (k : ℕ) : FVec F S96x256 .f32 :=
  prod (xTile x0 k) (byteAt t (View.ld x1 (rw' k)))

/-- The sum of `f 0`, …, `f n`, added in this order. -/
def addUp {s : Shape} (f : ℕ → FVec F s .f32) : ℕ → FVec F s .f32
  | 0 => f 0
  | n + 1 => addf (addUp f n) (f (n + 1))

/-- The accumulator of byte `t` after all tiles. -/
def accum (x0 : Vec F S96x8192 .bf16) (x1 : Vec F S8192x128 .i32) (t : Fin 4) : FVec F S96x256 .f32 :=
  addUp (tileProd x0 x1 t) 31

/-- One tile added to the partial row sums: its columns 0 to 127, then its columns 128 to 255. -/
def rowStep (v : FVec F S96x128 .f32) (x : FVec F S96x256 .bf16) : FVec F S96x128 .f32 :=
  addf (addf v (extractStridedSlice S96x128 ![0, 0] (extf .f32 x bitsLt_bf16_f32) slices_S96x256_o0_0_S96x128))
    (extractStridedSlice S96x128 ![0, 128] (extf .f32 x bitsLt_bf16_f32) slices_S96x256_o0_128_S96x128)

/-- The partial row sums after tiles `0`, …, `n - 1`. -/
def rowParts (x0 : Vec F S96x8192 .bf16) : ℕ → FVec F S96x128 .f32
  | 0 => broadcast S96x128 (Scalar.ofBits .f32 0x00000000#32)
  | n + 1 => rowStep (rowParts x0 n) (xTile x0 n)

/-- The row sums of the input. -/
def rowSums (x0 : Vec F S96x8192 .bf16) : FVec F S96x1 .f32 :=
  shapeCast S96x1 (multiReduction .add [1] S96 (rowParts x0 32) 0x00000000#32 reduces_S96x128_S96 (.inl rfl) rfl) shapeCasts_S96_S96x1

/-- The left or right 128 columns of an accumulator. -/
def half (v : FVec F S96x256 .f32) : Fin 2 → FVec F S96x128 .f32
  | 0 => extractStridedSlice S96x128 ![0, 0] v slices_S96x256_o0_0_S96x128
  | 1 => extractStridedSlice S96x128 ![0, 128] v slices_S96x256_o0_128_S96x128

/-- One stored block of 96 rows and 128 columns: the accumulated products `v`, less the row sums `rs` times the zero
    points (nibble `sh / 4` of the words `z`, less 8), times the scales `sc`. -/
def piece (v : FVec F S96x128 .f32) (rs : FVec F S96x1 .f32) (sh : BitVec 32) (z : Vec F S1x128 .i32) (sc : Vec F S1x128 .bf16) :
    FVec F S1x96x128 .bf16 :=
  shapeCast S1x96x128 (truncf .bf16 (mulf
    (subf v (mulf (broadcastTo S96x128 rs broadcasts_S96x1_S96x128)
      (broadcastTo S96x128 (sitofp .f32 (subi (andi (shrui (shapeCast S1x128 z shapeCasts_S1x128_S1x128) (broadcast S1x128 sh))
        (broadcast S1x128 15#32)) (broadcast S1x128 8#32))) broadcasts_S1x128_S96x128)))
    (broadcastTo S96x128 (extf .f32 (shapeCast S1x128 (shapeCast S128 sc shapeCasts_S1x128_S128) shapeCasts_S128_S1x128) bitsLt_bf16_f32)
      broadcasts_S1x128_S96x128)) bitsLt_bf16_f32) shapeCasts_S96x128_S1x96x128

/-- The printed accumulator of byte 0 is the sum of the tiles' products at byte 0. -/
theorem acc0_eq (x0 : Vec F S96x8192 .bf16) (x1 : Vec F S8192x128 .i32) (x2 : Vec F S1x128 .i32) (x3 : Vec F S8x128 .bf16) :
    k0_pay519 (k0_pay590 x0 x1 x2 x3) (k0_pay591 x0 x1 x2 x3) (k0_pay593 x0 x1 x2 x3) (k0_pay594 x0 x1 x2 x3) = accum x0 x1 0 := rfl

/-- The printed accumulator of byte 1 is the sum of the tiles' products at byte 1. -/
theorem acc1_eq (x0 : Vec F S96x8192 .bf16) (x1 : Vec F S8192x128 .i32) (x2 : Vec F S1x128 .i32) (x3 : Vec F S8x128 .bf16) :
    k0_pay595 x0 x1 x2 x3 = accum x0 x1 1 := rfl

/-- The printed accumulator of byte 2 is the sum of the tiles' products at byte 2. -/
theorem acc2_eq (x0 : Vec F S96x8192 .bf16) (x1 : Vec F S8192x128 .i32) (x2 : Vec F S1x128 .i32) (x3 : Vec F S8x128 .bf16) :
    k0_pay596 x0 x1 x2 x3 = accum x0 x1 2 := rfl

/-- The printed accumulator of byte 3 is the sum of the tiles' products at byte 3. -/
theorem acc3_eq (x0 : Vec F S96x8192 .bf16) (x1 : Vec F S8192x128 .i32) (x2 : Vec F S1x128 .i32) (x3 : Vec F S8x128 .bf16) :
    k0_pay597 x0 x1 x2 x3 = accum x0 x1 3 := rfl

/-- The printed row sums are the row sums of all tiles. -/
theorem rowSums_eq (x0 : Vec F S96x8192 .bf16) (x1 : Vec F S8192x128 .i32) (x2 : Vec F S1x128 .i32) (x3 : Vec F S8x128 .bf16) :
    k0_pay598 x0 x1 x2 x3 = rowSums x0 := rfl

/-- The output block of one grid point is the eight pieces. -/
theorem out_eq (x0 : Vec F S96x8192 .bf16) (x1 : Vec F S8192x128 .i32) (x2 : Vec F S1x128 .i32) (x3 : Vec F S8x128 .bf16) :
    out0_4 x0 x1 x2 x3 = View.canon [
      ⟨r0_80, piece (half (accum x0 x1 3) 1) (rowSums x0) 28#32 (View.ld x2 r0_64) (View.ld x3 r0_79)⟩,
      ⟨r0_78, piece (half (accum x0 x1 3) 0) (rowSums x0) 24#32 (View.ld x2 r0_64) (View.ld x3 r0_77)⟩,
      ⟨r0_76, piece (half (accum x0 x1 2) 1) (rowSums x0) 20#32 (View.ld x2 r0_64) (View.ld x3 r0_75)⟩,
      ⟨r0_74, piece (half (accum x0 x1 2) 0) (rowSums x0) 16#32 (View.ld x2 r0_64) (View.ld x3 r0_73)⟩,
      ⟨r0_72, piece (half (accum x0 x1 1) 1) (rowSums x0) 12#32 (View.ld x2 r0_64) (View.ld x3 r0_71)⟩,
      ⟨r0_70, piece (half (accum x0 x1 1) 0) (rowSums x0) 8#32 (View.ld x2 r0_64) (View.ld x3 r0_69)⟩,
      ⟨r0_68, piece (half (accum x0 x1 0) 1) (rowSums x0) 4#32 (View.ld x2 r0_64) (View.ld x3 r0_67)⟩,
      ⟨r0_66, piece (half (accum x0 x1 0) 0) (rowSums x0) 0#32 (View.ld x2 r0_64) (View.ld x3 r0_65)⟩] := rfl

end Cert.Proof

end
-- ==== Proof.Nibble.lean ====
/-
  The nibbles of a packed word. The kernel flips the top bit of every nibble, cuts the word into halves, bytes and
  nibbles (some of the cuts shift rows that are read together as wider words), and reads each nibble as a signed
  number; the reference shifts the word and keeps four bits. The signed number is the code less 8.
-/
module

public import proofs.«01_k».proof.Proof.Tile
public import Idealize.ShloMosaic.Lib.BitcastPair

@[expose] public section

set_option maxRecDepth 16384

noncomputable section

namespace Cert.Proof

open Idealize.ShloMosaic Idealize.SL.Sem Cert.KernelIdeal Cert.KernelIdeal.Gen

/-- The unsigned nibble `i` of a word, nibble 0 being the lowest. -/
def code (w : BitVec 32) (i : ℕ) : ℤ := (((w >>> (4 * i)).setWidth 4 : BitVec 4).toNat : ℤ)

/-! ## Single words -/

/-- A nibble of the flipped word is the word's nibble with its top bit flipped. -/
theorem flip_nib (w : BitVec 32) (i : Fin 8) :
    ((w ^^^ 2290649224#32) >>> (4 * i.val)).setWidth 4 = (w >>> (4 * i.val)).setWidth 4 ^^^ (8#4) := by
  have hC : ∀ (i : Fin 8) (q : Fin 4), (2290649224#32).getLsbD (4 * i.val + q.val) = (8#4).getLsbD q.val := by decide
  apply BitVec.eq_of_getLsbD_eq
  intro q hq
  simp only [BitVec.getLsbD_setWidth, BitVec.getLsbD_ushiftRight, BitVec.getLsbD_xor, hq, decide_true, Bool.true_and,
    hC i ⟨q, hq⟩]

/-- A nibble with its top bit flipped, read as a signed number, is the nibble less 8. -/
theorem toInt_flip (n : BitVec 4) : (n ^^^ (8#4)).toInt = (n.toNat : ℤ) - 8 := by
  revert n; decide

/-- The nibble of the flipped word read as a signed number. -/
theorem flip_code (w : BitVec 32) (i : Fin 8) :
    (((w ^^^ 2290649224#32) >>> (4 * i.val)).setWidth 4 : BitVec 4).toInt = code w i - 8 := by
  rw [flip_nib, toInt_flip]; rfl

/-- Keeping the low four bits of a word. -/
theorem and15 (x : BitVec 32) : x &&& 15#32 = (x.setWidth 4).setWidth 32 := by
  have hC : ∀ q : Fin 32, (15#32).getLsbD q.val = decide (q.val < 4) := by decide
  apply BitVec.eq_of_getLsbD_eq
  intro q hq
  simp only [BitVec.getLsbD_and, BitVec.getLsbD_setWidth, hC ⟨q, hq⟩, hq, decide_true, Bool.true_and]
  exact Bool.and_comm _ _

/-- Four bits widened to a word are read as an unsigned number. -/
theorem toInt_wide (n : BitVec 4) : (n.setWidth 32).toInt = (n.toNat : ℤ) := by
  revert n; decide

/-- Four bits widened to a word, less 8. -/
theorem toInt_wide_sub (n : BitVec 4) : (n.setWidth 32 - 8#32).toInt = (n.toNat : ℤ) - 8 := by
  revert n; decide

/-- The kernel's zero point: shifted without its sign, four bits kept, less 8. -/
theorem zero_code (w : BitVec 32) (i : Fin 8) :
    (IntOp.subi (IntOp.andi (IntOp.shrui .vector w (BitVec.ofNat 32 (4 * i.val))) 15#32) 8#32).toInt = code w i - 8 := by
  have h : ∀ i : Fin 8, (BitVec.ofNat 32 (4 * i.val)).toNat = 4 * i.val := by decide
  unfold IntOp.subi IntOp.andi IntOp.shrui
  rw [if_pos (by rw [h]; omega), and15, toInt_wide_sub, BitVec.ushiftRight_eq', h]; rfl

/-- The reference's code: shifted with its sign, four bits kept. -/
theorem ref_code (w : BitVec 32) (i : Fin 8) :
    (IntOp.andi (IntOp.shrsi .host w (BitVec.ofNat 32 (4 * i.val))) 15#32).toInt = code w i := by
  have h : ∀ i : Fin 8, (BitVec.ofNat 32 (4 * i.val)).toNat = 4 * i.val := by decide
  unfold IntOp.andi IntOp.shrsi
  rw [if_pos (by rw [h]; omega), and15, toInt_wide]
  unfold code BitVec.sshiftRight'
  rw [h]
  congr 2
  apply BitVec.eq_of_getLsbD_eq
  intro q hq
  simp only [BitVec.getLsbD_setWidth, BitVec.getLsbD_ushiftRight, BitVec.getLsbD_sshiftRight, hq, decide_true, Bool.true_and]
  have : 4 * i.val + q < 32 := by omega
  simp [this]; omega

/-! ## Rows read together as wider words -/

/-- The source index of a reinterpreted element, given by its coordinates. -/
theorem srcIdx_eq {s t : Shape} {v w : ℕ} (h : s.Bitcasts v t w) (j : t.Idx) (p : ℕ)
    (hp : ∀ a : Fin s.rank, a.val + 2 = s.rank → p < s.size a) (i : s.Idx)
    (h2 : ∀ a : Fin s.rank, a.val + 2 = s.rank → (i a).val = p)
    (h3 : ∀ a : Fin s.rank, ¬ a.val + 2 = s.rank → (i a).val = (j (a.cast h.1.symm)).val) : h.srcIdx j p hp = i := by
  funext a
  apply Fin.ext
  by_cases ha : a.val + 2 = s.rank
  · rw [Shape.Bitcasts.srcIdx_row h j p hp a ha, h2 a ha]
  · rw [Shape.Bitcasts.srcIdx_other h j p hp a ha, h3 a ha]

/-- A bit of a reinterpreted rank-2 array: bit `q` of row `r` is bit `(r w + q) % v` of source row `(r w + q) / v`. -/
theorem bitcast_bit {R R' n v w : ℕ} (x : (⟨2, ![R, n]⟩ : Shape).Idx → BitVec v)
    (h : (⟨2, ![R, n]⟩ : Shape).Bitcasts v ⟨2, ![R', n]⟩ w) (r : Fin R') (l : Fin n) (q : ℕ) (hq : q < w) (hv : 0 < v)
    (p : Fin R) (o : ℕ) (hp : (r.val * w + q) / v = p.val) (ho : (r.val * w + q) % v = o) :
    (bitcast ⟨2, ![R', n]⟩ w x h (ix2 r l)).getLsbD q = (x (ix2 p l)).getLsbD o := by
  rw [bitcast_getLsbD x h _ q hq hv]
  have hrow : (⟨2, ![R', n]⟩ : Shape).row (ix2 r l) = r.val := rfl
  rw [srcIdx_eq h _ _ _ (ix2 p l)]
  · rw [hrow, ho]
  · intro a ha
    match a with
    | ⟨0, _⟩ => rw [hrow, hp]; rfl
    | ⟨1, _⟩ => exact absurd ha (by show ¬ (1 + 2 = 2); omega)
  · intro a ha
    match a with
    | ⟨0, _⟩ => exact absurd rfl ha
    | ⟨1, _⟩ => rfl

/-- The high byte of a half word. -/
theorem highByte_at (h : IVec S256x128 16) (r : Fin 256) (l : Fin 128) :
    highByte h (ix2 r l) = ((h (ix2 r l)) >>> 8).setWidth 8 := by
  apply BitVec.eq_of_getLsbD_eq
  intro q hq
  unfold highByte trunci
  simp only [BitVec.getLsbD_setWidth, BitVec.getLsbD_ushiftRight, hq, decide_true, Bool.true_and]
  rw [bitcast_bit _ _ r l q (by omega) (by omega) ⟨r.val / 2, by omega⟩ (r.val % 2 * 16 + q) (by simp only; omega) (by omega)]
  unfold shrui broadcast IntOp.shrui
  rw [if_pos (by decide), BitVec.ushiftRight_eq', BitVec.getLsbD_ushiftRight]
  exact bitcast_bit _ _ ⟨r.val / 2, by omega⟩ l _ (by simp; omega) (by omega) r _ (by simp; omega) (by simp; omega)

/-- The high nibble of a byte. -/
theorem highNib_at (b : IVec S256x128 8) (r : Fin 256) (l : Fin 128) :
    highNib b (ix2 r l) = ((b (ix2 r l)) >>> 4).setWidth 4 := by
  apply BitVec.eq_of_getLsbD_eq
  intro q hq
  unfold highNib trunci
  simp only [BitVec.getLsbD_setWidth, BitVec.getLsbD_ushiftRight, hq, decide_true, Bool.true_and]
  rw [bitcast_bit _ _ r l q (by omega) (by omega) ⟨r.val / 4, by omega⟩ (r.val % 4 * 8 + q) (by simp only; omega) (by omega)]
  unfold shrui broadcast IntOp.shrui
  rw [if_pos (by decide), BitVec.ushiftRight_eq', BitVec.getLsbD_ushiftRight]
  exact bitcast_bit _ _ ⟨r.val / 4, by omega⟩ l _ (by simp; omega) (by omega) r _ (by simp; omega) (by simp; omega)

/-! ## The nibbles of a tile -/

/-- A byte of the flipped words. -/
theorem byteAt_at (t : Fin 4) (w : IVec S256x128 32) (r : Fin 256) (l : Fin 128) :
    byteAt t w (ix2 r l) = ((w (ix2 r l) ^^^ 2290649224#32) >>> (8 * t.val)).setWidth 8 := by
  have hlow : lowHalf w (ix2 r l) = (w (ix2 r l) ^^^ 2290649224#32).setWidth 16 := rfl
  have hhigh : highHalf w (ix2 r l) = ((w (ix2 r l) ^^^ 2290649224#32) >>> 16).setWidth 16 := by
    unfold highHalf trunci shrui broadcast IntOp.shrui
    rw [if_pos (by decide)]; rfl
  generalize w (ix2 r l) ^^^ 2290649224#32 = u at hlow hhigh ⊢
  apply BitVec.eq_of_getLsbD_eq
  intro q hq
  have h1 : 8 + q < 16 := by omega
  have h2 : q < 16 := by omega
  match t with
  | 0 => show (BitVec.setWidth 8 (lowHalf w (ix2 r l))).getLsbD q = _
         rw [hlow]
         simp [hq, h2]
  | 1 => show (highByte (lowHalf w) (ix2 r l)).getLsbD q = _
         rw [highByte_at, hlow]
         simp [hq, h1]
  | 2 => show (BitVec.setWidth 8 (highHalf w (ix2 r l))).getLsbD q = _
         rw [hhigh]
         simp [hq, h2]
  | 3 => show (highByte (highHalf w) (ix2 r l)).getLsbD q = _
         rw [highByte_at, hhigh]
         simp [hq, h1, ← Nat.add_assoc]

/-- The low nibble of byte `t` as a signed number is code `2 t` less 8. -/
theorem lowNib_code (t : Fin 4) (w : IVec S256x128 32) (r : Fin 256) (l : Fin 128) :
    (lowNib (byteAt t w) (ix2 r l)).toInt = code (w (ix2 r l)) (2 * t.val) - 8 := by
  rw [← flip_code _ ⟨2 * t.val, by omega⟩]
  congr 1
  show BitVec.setWidth 4 (byteAt t w (ix2 r l)) = _
  rw [byteAt_at]
  apply BitVec.eq_of_getLsbD_eq
  intro q hq
  have e : 8 * t.val = 4 * (2 * t.val) := by omega
  simp only [BitVec.getLsbD_setWidth, BitVec.getLsbD_ushiftRight, hq, decide_true, Bool.true_and, e]
  simp; omega

/-- The high nibble of byte `t` as a signed number is code `2 t + 1` less 8. -/
theorem highNib_code (t : Fin 4) (w : IVec S256x128 32) (r : Fin 256) (l : Fin 128) :
    (highNib (byteAt t w) (ix2 r l)).toInt = code (w (ix2 r l)) (2 * t.val + 1) - 8 := by
  rw [← flip_code _ ⟨2 * t.val + 1, by omega⟩, highNib_at]
  congr 1
  rw [byteAt_at]
  apply BitVec.eq_of_getLsbD_eq
  intro q hq
  have e : 8 * t.val + (4 + q) = 4 * (2 * t.val + 1) + q := by omega
  simp only [BitVec.getLsbD_setWidth, BitVec.getLsbD_ushiftRight, hq, decide_true, Bool.true_and, e]
  simp; omega

/-- Which output column of its group of eight nibble `i` of a packed word holds. -/
def awq : Fin 8 → Fin 8 := ![0, 2, 4, 6, 1, 3, 5, 7]

/-- The nibble that output column `j` of a group of eight is taken from. -/
def inv : Fin 8 → Fin 8 := ![0, 4, 1, 5, 2, 6, 3, 7]

/-- Nibble `inv j` stands for output column `j`. -/
theorem awq_inv : ∀ j : Fin 8, awq (inv j) = j := by decide

end Cert.Proof

end
-- ==== Proof.Sums.lean ====
/-
  The accumulators and the row sums as sums over the whole contracted axis: the 32 tiles of 256 are the 8192 rows.
-/
module

public import proofs.«01_k».proof.Proof.Nibble

@[expose] public section

set_option maxRecDepth 16384

noncomputable section

namespace Cert.Proof

open Idealize.ShloMosaic Idealize.ShloMosaic.TcCoe Idealize.SL.Sem Cert.KernelIdeal Cert.KernelIdeal.Gen

/-- A sum of arrays read at an index. -/
theorem addUp_at {s : Shape} (f : ℕ → FVec Ideal s .f32) (n : ℕ) (i : s.Idx) :
    addUp f n i = ∑ k ∈ Finset.range (n + 1), f k i := by
  induction n with
  | zero => simp [addUp]
  | succ n ih => rw [Finset.sum_range_succ, ← ih]; rfl

/-- The product of a tile in the left 128 columns. -/
theorem prod_left (x : FVec Ideal S96x256 .bf16) (b : IVec S256x128 8) (r : Fin 96) (l : Fin 128) :
    half (prod x b) 0 (ix2 r l) = ∑ q : Fin 256, x (ix2 r q) * (((lowNib b (ix2 q l)).toInt : ℝ) : EReal) := by
  unfold half
  pointwise [prod]
  rfl

/-- The product of a tile in the right 128 columns. -/
theorem prod_right (x : FVec Ideal S96x256 .bf16) (b : IVec S256x128 8) (r : Fin 96) (l : Fin 128) :
    half (prod x b) 1 (ix2 r l) = ∑ q : Fin 256, x (ix2 r q) * (((highNib b (ix2 q l)).toInt : ℝ) : EReal) := by
  unfold half
  pointwise [prod]
  rfl

/-- Column `q` of the input's tile `k`. -/
theorem xTile_at (x0 : FVec Ideal S96x8192 .bf16) (k : ℕ) (r : Fin 96) (q : Fin 256) :
    xTile (F := Ideal) x0 k (ix2 r q) = x0 (ix2 r ⟨256 * (k % 32) + q.val, by omega⟩) := by
  pointwise [xTile]

/-- Row `q` of the words' tile `k`. -/
theorem wTile_at (x1 : IVec S8192x128 32) (k : ℕ) (q : Fin 256) (l : Fin 128) :
    (View.ld (Val := Elt Ideal) (e' := .i32) x1 (rw' k) : IVec S256x128 32) (ix2 q l) = x1 (ix2 ⟨256 * (k % 32) + q.val, by omega⟩ l) := by
  pointwise

/-- One step adds two entries of the tile to every partial sum. -/
theorem rowStep_at (v : FVec Ideal S96x128 .f32) (x : FVec Ideal S96x256 .bf16) (r : Fin 96) (l : Fin 128) :
    rowStep v x (ix2 r l) = v (ix2 r l) + x (ix2 r ⟨l.val, by omega⟩) + x (ix2 r ⟨128 + l.val, by omega⟩) := by
  pointwise [rowStep]

/-- A row's sum is the sum of its 128 partial sums. -/
theorem rowSums_at (x0 : FVec Ideal S96x8192 .bf16) (r : Fin 96) (z : Fin 1) :
    rowSums (F := Ideal) x0 (ix2 r z) = ∑ l : Fin 128, rowParts (F := Ideal) x0 32 (ix2 r l) := by
  pointwise [rowSums]

/-- The left or right half of a sum of arrays. -/
theorem half_addUp (f : ℕ → FVec Ideal S96x256 .f32) (n : ℕ) (h : Fin 2) (r : Fin 96) (l : Fin 128) :
    half (addUp f n) h (ix2 r l) = ∑ k ∈ Finset.range (n + 1), half (f k) h (ix2 r l) := by
  match h with
  | 0 => unfold half; pointwise; exact addUp_at f n _
  | 1 => unfold half; pointwise; exact addUp_at f n _

/-- The 32 tiles of 256 columns are the 8192 columns. -/
theorem sum_tiles (f : Fin 8192 → EReal) :
    ∑ k ∈ Finset.range 32, ∑ q : Fin 256, f ⟨256 * (k % 32) + q.val, by omega⟩ = ∑ k : Fin 8192, f k := by
  rw [Finset.sum_range, ← Fin.sum_mul_add_fin 32 256 f]
  refine Finset.sum_congr rfl fun k _ => Finset.sum_congr rfl fun q _ => congrArg f (Fin.ext ?_)
  show 256 * (k.val % 32) + q.val = k.val * 256 + q.val
  omega

/-- Nibble `2 t + h` of the words against the input rows: half `h` of the accumulator of byte `t`. -/
theorem accum_at (x0 : FVec Ideal S96x8192 .bf16) (x1 : IVec S8192x128 32) (t : Fin 4) (h : Fin 2) (r : Fin 96) (l : Fin 128) :
    half (accum (F := Ideal) x0 x1 t) h (ix2 r l)
      = ∑ k : Fin 8192, x0 (ix2 r k) * (((code (x1 (ix2 k l)) (2 * t.val + h.val) - 8 : ℤ) : ℝ) : EReal) := by
  unfold accum
  rw [half_addUp, ← sum_tiles]
  refine Finset.sum_congr rfl fun k _ => ?_
  match h with
  | 0 =>
    unfold tileProd
    rw [prod_left]
    refine Finset.sum_congr rfl fun q _ => ?_
    rw [xTile_at, lowNib_code]
    exact congrArg (fun w => x0 _ * (((code w _ - 8 : ℤ) : ℝ) : EReal)) (wTile_at x1 k q l)
  | 1 =>
    unfold tileProd
    rw [prod_right]
    refine Finset.sum_congr rfl fun q _ => ?_
    rw [xTile_at, highNib_code]
    exact congrArg (fun w => x0 _ * (((code w _ - 8 : ℤ) : ℝ) : EReal)) (wTile_at x1 k q l)

/-- The partial sums after `n` tiles. -/
theorem rowParts_at (x0 : FVec Ideal S96x8192 .bf16) (n : ℕ) (r : Fin 96) (l : Fin 128) :
    rowParts (F := Ideal) x0 n (ix2 r l) = ∑ k ∈ Finset.range n,
      (x0 (ix2 r ⟨256 * (k % 32) + l.val, by omega⟩) + x0 (ix2 r ⟨256 * (k % 32) + (128 + l.val), by omega⟩)) := by
  induction n with
  | zero => pointwise [rowParts]; simp
  | succ n ih =>
    unfold rowParts
    rw [rowStep_at, ih, Finset.sum_range_succ, xTile_at, xTile_at, add_assoc]

/-- The row sums are the sums over all columns. -/
theorem rowSums_eq_sum (x0 : FVec Ideal S96x8192 .bf16) (r : Fin 96) (z : Fin 1) :
    rowSums (F := Ideal) x0 (ix2 r z) = ∑ k : Fin 8192, x0 (ix2 r k) := by
  rw [rowSums_at, ← sum_tiles (fun k => x0 (ix2 r k))]
  simp only [rowParts_at]
  rw [Finset.sum_comm]
  refine Finset.sum_congr rfl fun k _ => ?_
  rw [Finset.sum_add_distrib]
  exact (Fin.sum_univ_add (a := 128) (b := 128) (fun q : Fin 256 => x0 (ix2 r ⟨256 * (k % 32) + q.val, by omega⟩))).symm

end Cert.Proof

end
-- ==== Proof.Block.lean ====
/-
  The output block of one grid point, element by element.
-/
module

public import proofs.«01_k».proof.Proof.Sums

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The kernel's value at nibble `i` of a packed column: the row times the codes less 8, minus the row's sum times the
    zero point less 8, times the scale. `w` is the packed column, `z` the packed zero points, `s` the scale. -/
def kernelVal (x : Fin 8192 → EReal) (w : Fin 8192 → BitVec 32) (z : BitVec 32) (s : EReal) (i : ℕ) : EReal :=
  ((∑ k : Fin 8192, x k * (((code (w k) i - 8 : ℤ) : ℝ) : EReal)) - (∑ k : Fin 8192, x k) * (((code z i - 8 : ℤ) : ℝ) : EReal)) * s

/-- One stored piece at an index. -/
theorem piece_at (v : FVec Ideal S96x128 .f32) (rs : FVec Ideal S96x1 .f32) (i : Fin 8) (z : IVec S1x128 32)
    (sc : FVec Ideal S1x128 .bf16) (u : Fin 1) (r : Fin 96) (l : Fin 128) :
    piece (F := Ideal) v rs (BitVec.ofNat 32 (4 * i.val)) z sc (ix3 u r l)
      = (v (ix2 r l) - rs (ix2 r 0) * (((code (z (ix2 0 l)) i - 8 : ℤ) : ℝ) : EReal)) * sc (ix2 0 l) := by
  rw [← zero_code]
  pointwise [piece]
  rfl

/-- Nibble `h` of byte `t`. -/
def nibOf (t : Fin 4) (h : Fin 2) : Fin 8 := ⟨2 * t.val + h.val, by omega⟩

/-- The piece of nibble `2 t + h`, whose scales `sc` are row `2 t + h` of the scales' block, at its own index `x`: the
    kernel's value at the block's index `(i, r, l)` that `x` is stored at. -/
theorem piece_val (x0 : FVec Ideal S96x8192 .bf16) (x1 : IVec S8192x128 32) (x2 : IVec S1x128 32) (x3 : FVec Ideal S8x128 .bf16)
    (z : IVec S1x128 32) (sc : FVec Ideal S1x128 .bf16) (sh : BitVec 32) (t : Fin 4) (h : Fin 2) (i : Fin 8) (r : Fin 96) (l : Fin 128)
    (x : S1x96x128.Idx) (h0 : i.val = 2 * t.val + h.val + (x 0).val) (h1 : r.val = (x 1).val) (h2 : l.val = (x 2).val)
    (hsh : sh = BitVec.ofNat 32 (4 * (2 * t.val + h.val))) (hz : ∀ l, z (ix2 0 l) = x2 (ix2 0 l))
    (hs : ∀ l, sc (ix2 0 l) = x3 (ix2 (nibOf t h) l)) :
    piece (F := Ideal) (half (accum (F := Ideal) x0 x1 t) h) (rowSums (F := Ideal) x0) sh z sc x
      = kernelVal (fun k => x0 (ix2 r k)) (fun k => x1 (ix2 k l)) (x2 (ix2 0 l)) (x3 (ix2 i l)) i.val := by
  have hx0 : (x 0).val = 0 := Nat.lt_one_iff.mp (x 0).isLt
  have hx : x = ix3 0 r l := by
    funext a
    match a with
    | ⟨0, _⟩ => exact Fin.ext hx0
    | ⟨1, _⟩ => exact Fin.ext h1.symm
    | ⟨2, _⟩ => exact Fin.ext h2.symm
  have hi : i = nibOf t h := Fin.ext (h0.trans (by rw [hx0]; rfl))
  clear h0
  subst hi
  rw [hx, hsh]
  refine (piece_at _ _ (nibOf t h) z sc 0 r l).trans ?_
  rw [accum_at, rowSums_eq_sum, hz, hs]
  rfl

/-- The block of one grid point: element `(i, r, l)` is the kernel's value at nibble `i` of column `l` and row `r`. -/
theorem out_at (x0 : FVec Ideal S96x8192 .bf16) (x1 : IVec S8192x128 32) (x2 : IVec S1x128 32) (x3 : FVec Ideal S8x128 .bf16)
    (i : Fin 8) (r : Fin 96) (l : Fin 128) :
    out0_4 (F := Ideal) x0 x1 x2 x3 (ix3 i r l)
      = kernelVal (fun k => x0 (ix2 r k)) (fun k => x1 (ix2 k l)) (x2 (ix2 0 l)) (x3 (ix2 i l)) i.val := by
  rw [out_eq]
  canon_tiles x h
  · exact piece_val x0 x1 x2 x3 _ _ _ 3 1 i r l x h0 h1 h2 rfl (fun l => by pointwise) (fun l => by pointwise; rfl)
  · exact piece_val x0 x1 x2 x3 _ _ _ 3 0 i r l x h0 h1 h2 rfl (fun l => by pointwise) (fun l => by pointwise; rfl)
  · exact piece_val x0 x1 x2 x3 _ _ _ 2 1 i r l x h0 h1 h2 rfl (fun l => by pointwise) (fun l => by pointwise; rfl)
  · exact piece_val x0 x1 x2 x3 _ _ _ 2 0 i r l x h0 h1 h2 rfl (fun l => by pointwise) (fun l => by pointwise; rfl)
  · exact piece_val x0 x1 x2 x3 _ _ _ 1 1 i r l x h0 h1 h2 rfl (fun l => by pointwise) (fun l => by pointwise; rfl)
  · exact piece_val x0 x1 x2 x3 _ _ _ 1 0 i r l x h0 h1 h2 rfl (fun l => by pointwise) (fun l => by pointwise; rfl)
  · exact piece_val x0 x1 x2 x3 _ _ _ 0 1 i r l x h0 h1 h2 rfl (fun l => by pointwise) (fun l => by pointwise; rfl)
  · refine piece_val x0 x1 x2 x3 _ _ _ 0 0 i r l x ?_ h1 h2 rfl (fun l => by pointwise) (fun l => by pointwise; rfl)
    rw [show 2 * (0 : Fin 4).val + (0 : Fin 2).val = 0 from rfl, Nat.zero_add]; exact h0

end Cert.Proof

end
-- ==== Proof.Arr.lean ====
/-
  The array the kernel's region leaves, element by element, in terms of the arguments.
-/
module

public import proofs.«01_k».proof.Proof.Block

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- Rows of an array taken by a column of row numbers, each read signed and clamped into the array. -/
theorem gather_rows {α : Type} (x : S8x896.Idx → α) (idx : IVec S8x1 32) (i : Fin 8) (l : Fin 896) :
    Host.gather gather_S8x896_S8x1_S8x896_1_0_n_n_0_1_1896 x idx (ix2 i l)
      = x (ix2 ⟨min (idx (ix2 i 0)).toInt.toNat 7, by omega⟩ l) := by
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S8x896_S8x1_S8x896_1_0_n_n_0_1_1896).startIndexMap from List.mem_singleton.mpr rfl)]
    have hsi : (gather_S8x896_S8x1_S8x896_1_0_n_n_0_1_1896).siIdx (ix2 i l)
        ⟨List.idxOf (0 : Fin 2) (gather_S8x896_S8x1_S8x896_1_0_n_n_0_1_1896).startIndexMap,
          List.idxOf_lt_length_iff.2 (List.mem_singleton.mpr rfl)⟩ = ix2 i 0 := by
      funext b; refine Fin.ext ?_
      match b with
      | ⟨0, _⟩ => rfl
      | ⟨1, _⟩ => rfl
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ (gather_S8x896_S8x1_S8x896_1_0_n_n_0_1_1896).startIndexMap from by decide)]
    simp only [Nat.zero_add]
    rfl

/-- The same when the row number is known. -/
theorem gather_row {α : Type} (x : S8x896.Idx → α) (idx : IVec S8x1 32) (i : Fin 8) (l : Fin 896) (n : Fin 8)
    (h : min (idx (ix2 i 0)).toInt.toNat 7 = n.val) :
    Host.gather gather_S8x896_S8x1_S8x896_1_0_n_n_0_1_1896 x idx (ix2 i l) = x (ix2 n l) :=
  (gather_rows x idx i l).trans (congrArg (fun k => x (ix2 k l)) (Fin.ext h))

/-- The row numbers the scales are taken by. -/
theorem rows_at (i : Fin 8) :
    min ((broadcastInDim S8x1 ![0] bcast_S8_S8x1_0
        (select
          (cmpi CmpIPredicate.slt (fun i => lit0 (S8.rowMajor i)) (broadcastInDim S8 ![] bcast_S_S8 (constantI S_ 32 0#32)))
          (addi (fun i => lit0 (S8.rowMajor i)) (broadcastInDim S8 ![] bcast_S_S8 (constantI S_ 32 8#32)))
          (fun i => lit0 (S8.rowMajor i))) : IVec S8x1 32) (ix2 i 0)).toInt.toNat 7 = (awq i).val := by
  revert i
  decide +kernel

/-- The kernel's activations are the argument without its axis of length one. -/
theorem V_x (c : Dev nD) (r : Fin 96) (k : Fin 8192) :
    (V m c main_v0 : FVec Ideal S96x8192 .bf16) (ix2 r k)
      = (m ((c : Thread nD τ).loc main_arg0) : FVec Ideal S96x1x8192 .bf16) (ix3 r 0 k) := by
  simp only [V, V0, List.flatten_cons, List.flatten_nil, List.append_nil]
  after_results
  pointwise

/-- The kernel's zero points are the argument as one row. -/
theorem V_z (c : Dev nD) (u : Fin 1) (l : Fin 896) :
    (V m c main_v10 : IVec S1x896 32) (ix2 u l)
      = (m ((c : Thread nD τ).loc main_arg2) : IVec S896 32) (ix1 l) := by
  simp only [V, V0, List.flatten_cons, List.flatten_nil, List.append_nil]
  after_results
  pointwise

/-- Row `i` of the kernel's scales holds those of the output columns that nibble `i` of a word stands for. -/
theorem V_s (c : Dev nD) (i : Fin 8) (l : Fin 896) :
    (V m c main_v9 : FVec Ideal S8x896 .bf16) (ix2 i l)
      = (m ((c : Thread nD τ).loc main_arg3) : FVec Ideal S7168 .bf16) (ix1 ⟨l.val * 8 + (awq i).val, by omega⟩) := by
  simp only [V, V0, List.flatten_cons, List.flatten_nil, List.append_nil]
  after_results
  refine (gather_row _ _ i l (awq i) (rows_at i)).trans ?_
  pointwise

/-- Entry `(i, r, l)` of the array the kernel writes: row `r` of the activations against nibble `i` of word column `l`. -/
def arrVal (c : Dev nD) (i : Fin 8) (r : Fin 96) (l : Fin 896) : EReal :=
  kernelVal (fun k => (m ((c : Thread nD τ).loc main_arg0) : FVec Ideal S96x1x8192 .bf16) (ix3 r 0 k))
    (fun k => (m ((c : Thread nD τ).loc main_arg1) : IVec S8192x896 32) (ix2 k l))
    ((m ((c : Thread nD τ).loc main_arg2) : IVec S896 32) (ix1 l))
    ((m ((c : Thread nD τ).loc main_arg3) : FVec Ideal S7168 .bf16) (ix1 ⟨l.val * 8 + (awq i).val, by omega⟩)) i.val

/-- Which block of its array each window holds at each grid point. -/
theorem idx : ∀ t : Fin cfg0.N, win0_0.index t = ![0, 0] ∧ win0_1.index t = ![0, t.val] ∧ win0_2.index t = ![0, t.val]
    ∧ win0_3.index t = ![0, t.val] ∧ win0_4.index t = ![0, 0, t.val] := (by decide +kernel : ∀ t : Fin grid0.N, _)

/-- The word column that column `l` of the block at grid point `t` is. -/
def col (t : Fin cfg0.N) (l : Fin 128) : Fin 896 :=
  ⟨t.val * 128 + l.val, by have : t.val < 7 := lt_of_lt_of_eq t.isLt N_0; omega⟩

/-- The block of activations is the whole array at every grid point. -/
theorem blk_x (c : Dev nD) (t : Fin cfg0.N) (r : Fin 96) (k : Fin 8192) :
    (iblk m c 0 t : FVec Ideal S96x8192 .bf16) (ix2 r k)
      = (m ((c : Thread nD τ).loc main_arg0) : FVec Ideal S96x1x8192 .bf16) (ix3 r 0 k) := by
  refine Eq.trans ?_ (V_x m c r k)
  blk_ext [iblk, idx t]

/-- Grid point `t` reads the words of its 128 columns. -/
theorem blk_w (c : Dev nD) (t : Fin cfg0.N) (k : Fin 8192) (l : Fin 128) :
    (iblk m c 1 t : IVec S8192x128 32) (ix2 k l)
      = (m ((c : Thread nD τ).loc main_arg1) : IVec S8192x896 32) (ix2 k (col t l)) := by
  refine Eq.trans ?_ (congrFun (V_main_arg1 m c) (ix2 k (col t l)))
  blk_ext [iblk, idx t]
  rfl

/-- Grid point `t` reads the zero points of its 128 columns. -/
theorem blk_z (c : Dev nD) (t : Fin cfg0.N) (l : Fin 128) :
    (iblk m c 2 t : IVec S1x128 32) (ix2 0 l)
      = (m ((c : Thread nD τ).loc main_arg2) : IVec S896 32) (ix1 (col t l)) := by
  refine Eq.trans ?_ (V_z m c 0 (col t l))
  blk_ext [iblk, idx t]
  rfl

/-- Grid point `t` reads the scales of its 128 columns. -/
theorem blk_s (c : Dev nD) (t : Fin cfg0.N) (i : Fin 8) (l : Fin 128) :
    (iblk m c 3 t : FVec Ideal S8x128 .bf16) (ix2 i l)
      = (m ((c : Thread nD τ).loc main_arg3) : FVec Ideal S7168 .bf16) (ix1 ⟨(col t l).val * 8 + (awq i).val, by omega⟩) := by
  refine Eq.trans ?_ (V_s m c i (col t l))
  blk_ext [iblk, idx t]
  rfl

/-- What the block of grid point `t` holds. -/
theorem point (c : Dev nD) (t : Fin cfg0.N) (i : Fin 8) (r : Fin 96) (l : Fin 128) :
    out0_4 (F := Ideal) (iblk m c 0 t) (iblk m c 1 t) (iblk m c 2 t) (iblk m c 3 t) (ix3 i r l) = arrVal m c i r (col t l) := by
  refine (out_at (iblk m c 0 t) (iblk m c 1 t) (iblk m c 2 t) (iblk m c 3 t) i r l).trans ?_
  unfold arrVal
  congr 1
  · exact funext fun k => blk_x m c t r k
  · exact funext fun k => blk_w m c t k l
  · exact blk_z m c t l
  · exact blk_s m c t i l

/-- The array after the last grid point. -/
theorem final (c : Dev nD) : (dats m 0 c).arrAt 4 (cfgs 0).N
    = fun y : S8x96x896.Idx => arrVal m c (y 0) (y 1) (y 2) := by
  refine (dats m 0 c).arrAt_eq_of_covers 4 _ (by decide +kernel) fun t hf y => ?_
  blk_simp
  rw [after0_4]
  have hy : (y : S8x96x128.Idx) = ix3 (y 0) (y 1) (y 2) := by
    funext a; match a with | ⟨0, _⟩ => rfl | ⟨1, _⟩ => rfl | ⟨2, _⟩ => rfl
  refine (congrArg _ hy).trans ((point m c t (y 0) (y 1) (y 2)).trans ?_)
  have h0 : (win0_4.blk t).view.emb y 0 = y 0 := Fin.ext (by blk_simp [idx t] <;> try omega)
  have h1 : (win0_4.blk t).view.emb y 1 = y 1 := Fin.ext (by blk_simp [idx t] <;> try omega)
  have h2 : (win0_4.blk t).view.emb y 2 = col t (y 2) := Fin.ext (by blk_simp [idx t] <;> rfl)
  rw [h0, h1, h2]

end Cert.Proof

end
-- ==== Proof.Tail.lean ====
/-
  The host operations after the kernel: they cut its array into eight planes and put these side by side, so that output
  column `8 l + j` of the result is column `l` of the plane for position `j`.
-/
module

public import proofs.«01_k».proof.Proof.Arr

@[expose] public section
set_option maxRecDepth 16384

noncomputable section

namespace Cert.Proof
open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The operations that cut the kernel's array into its eight planes. -/
def planes : List (HloOp τ sig (Elt Ideal)) := hostOps1.take 24

/-- What the planes for the output positions `0`, …, `7` of each group of eight hold. -/
theorem plane_at (W : Valuation τ sig (Elt Ideal)) (r : Fin 96) (l : Fin 896) (u : Fin 1) :
    (StableHlo.after planes W (Proc.devRef .tc main_v28) : FVec Ideal S96x896x1 .bf16) (ix3 r l u)
          = (W (Proc.devRef .tc main_v11) : FVec Ideal S8x96x896 .bf16) (ix3 0 r l)
      ∧ (StableHlo.after planes W (Proc.devRef .tc main_v29) : FVec Ideal S96x896x1 .bf16) (ix3 r l u)
          = (W (Proc.devRef .tc main_v11) : FVec Ideal S8x96x896 .bf16) (ix3 4 r l)
      ∧ (StableHlo.after planes W (Proc.devRef .tc main_v30) : FVec Ideal S96x896x1 .bf16) (ix3 r l u)
          = (W (Proc.devRef .tc main_v11) : FVec Ideal S8x96x896 .bf16) (ix3 1 r l)
      ∧ (StableHlo.after planes W (Proc.devRef .tc main_v31) : FVec Ideal S96x896x1 .bf16) (ix3 r l u)
          = (W (Proc.devRef .tc main_v11) : FVec Ideal S8x96x896 .bf16) (ix3 5 r l)
      ∧ (StableHlo.after planes W (Proc.devRef .tc main_v32) : FVec Ideal S96x896x1 .bf16) (ix3 r l u)
          = (W (Proc.devRef .tc main_v11) : FVec Ideal S8x96x896 .bf16) (ix3 2 r l)
      ∧ (StableHlo.after planes W (Proc.devRef .tc main_v33) : FVec Ideal S96x896x1 .bf16) (ix3 r l u)
          = (W (Proc.devRef .tc main_v11) : FVec Ideal S8x96x896 .bf16) (ix3 6 r l)
      ∧ (StableHlo.after planes W (Proc.devRef .tc main_v34) : FVec Ideal S96x896x1 .bf16) (ix3 r l u)
          = (W (Proc.devRef .tc main_v11) : FVec Ideal S8x96x896 .bf16) (ix3 3 r l)
      ∧ (StableHlo.after planes W (Proc.devRef .tc main_v35) : FVec Ideal S96x896x1 .bf16) (ix3 r l u)
          = (W (Proc.devRef .tc main_v11) : FVec Ideal S8x96x896 .bf16) (ix3 7 r l) := by
  simp only [planes, hostOps1, List.take]
  refine ⟨?_, ?_, ?_, ?_, ?_, ?_, ?_, ?_⟩
  all_goals
    after_results
    pointwise

/-- The operations after the kernel put its eight planes side by side, column by column. -/
theorem tail_of (W : Valuation τ sig (Elt Ideal)) (r : Fin 96) (q : Fin 7168) :
    (StableHlo.after (hostOps1 (F := Ideal)) W (Proc.devRef .tc main_v37) : FVec Ideal S96x1x7168 .bf16) (ix3 r 0 q)
      = (W (Proc.devRef .tc main_v11) : FVec Ideal S8x96x896 .bf16)
          (ix3 (inv ⟨q.val % 8, Nat.mod_lt _ (by omega)⟩) r ⟨q.val / 8, by omega⟩) := by
  have hp := fun u => plane_at W r ⟨q.val / 8, by omega⟩ u
  rw [show (hostOps1 (F := Ideal)) = planes ++ hostOps1.drop 24 from rfl, StableHlo.after_append]
  generalize StableHlo.after planes W = U at *
  simp only [hostOps1, List.drop]
  after_results
  pointwise
  simp only [hp]
  generalize hj : (⟨q.val % 8, Nat.mod_lt _ (by omega)⟩ : Fin 8) = j
  have hv : q.val % 8 = j.val := congrArg Fin.val hj
  simp only [hv]
  clear hj hv
  fin_cases j <;> rfl

/-- The array the kernel leaves behind, as the operations after it find it. -/
theorem array_eq (c : Dev nD) :
    (Pipeline.withArrays (cfgs 0).spec c (V0 m c) (fun w => (dats m 0 c).arrAt w (cfgs 0).N)) (Proc.devRef .tc main_v11)
      = fun y : S8x96x896.Idx => arrVal m c (y 0) (y 1) (y 2) :=
  (Pipeline.withArrays_arr (cfgs 0).spec launch0.win.arr_inj c (V0 m c) _ 4).trans (final m c)

/-- Entry `(r, 0, q)` of the result: output column `q` is nibble `inv (q % 8)` of word column `q / 8`. -/
theorem result (c : Dev nD) (r : Fin 96) (q : Fin 7168) :
    (Pipeline.afterTail₀ cfgs (dats m) 0 (V0 m) [hostOps1] c main_v37 : FVec Ideal S96x1x7168 .bf16) (ix3 r 0 q)
      = arrVal m c (inv ⟨q.val % 8, Nat.mod_lt _ (by omega)⟩) r ⟨q.val / 8, by omega⟩ := by
  unfold Pipeline.afterTail₀
  simp only [List.flatten_cons, List.flatten_nil, List.append_nil]
  exact (tail_of _ r q).trans (congrFun (array_eq m c) _)

end Cert.Proof

end
-- ==== Proof.Ref.lean ====
/-
  The reference's result, element by element: the sum of the activations times the codes, less the row sum times the
  zero point, times the scale.
-/
module

public import proofs.«01_k».proof.Proof.Nibble
public import proofs.«01_k».proof.Proof.Gen.ReferenceIdeal.Run

@[expose] public section
set_option maxRecDepth 16384

noncomputable section

namespace Cert.Proof
open Idealize.ShloMosaic Idealize.ShloMosaic.TcCoe Idealize.SL.Sem Cert.ReferenceIdeal Cert.ReferenceIdeal.Gen
open Cert.ReferenceIdeal.Value (res_main_v0 res_main_v3 res_main_v5 res_main_v182)

/-- One output value of the reference: activations `x`, the words `w` of a column, its zero word `z`, scale `s`, nibble `i`. -/
def refVal (x : Fin 8192 → EReal) (w : Fin 8192 → BitVec 32) (z : BitVec 32) (s : EReal) (i : ℕ) : EReal :=
  ((∑ k, x k * (((code (w k) i : ℤ) : ℝ) : EReal)) - (∑ k, x k) * (((code z i : ℤ) : ℝ) : EReal)) * s

/-- The reference's product for one nibble: shift `sh`, scales `sc`. -/
def refPlane (X : FVec Ideal S96x8192 .bf16) (R : FVec Ideal S96x1 .f32) (W : IVec S8192x896 32) (Z : IVec S896 32)
    (sh : BitVec 32) (sc : FVec Ideal S896 .f32) : FVec Ideal S96x896 .f32 :=
  mulf (subf
      (Host.dotGeneral dot_S96x8192_S8192x896_S96x896_1_0_0_1_n_n none X
        (sitofp .bf16 (andi (Host.shrsi W (broadcastInDim S8192x896 ![] bcast_S_S8192x896 (constantI S_ 32 sh)))
          (broadcastInDim S8192x896 ![] bcast_S_S8192x896 (constantI S_ 32 15#32)))))
      (mulf (broadcastInDim S96x896 ![0, 1] bcast_S96x1_S96x896_0_1 R)
        (broadcastInDim S96x896 ![0, 1] bcast_S1x896_S96x896_0_1 (broadcastInDim S1x896 ![1] bcast_S896_S1x896_1
          (sitofp .f32 (andi (Host.shrsi Z (broadcastInDim S896 ![] bcast_S_S896 (constantI S_ 32 sh)))
            (broadcastInDim S896 ![] bcast_S_S896 (constantI S_ 32 15#32))))))))
    (broadcastInDim S96x896 ![0, 1] bcast_S1x896_S96x896_0_1 (broadcastInDim S1x896 ![1] bcast_S896_S1x896_1 sc))

/-- Every entry of that product: the row times the codes of the column, less the row's sum times the zero point's code,
    times the scale. -/
theorem refPlane_at (X : FVec Ideal S96x8192 .bf16) (R : FVec Ideal S96x1 .f32) (W : IVec S8192x896 32) (Z : IVec S896 32)
    (i : Fin 8) (sc : FVec Ideal S896 .f32) (r : Fin 96) (l : Fin 896) :
    refPlane X R W Z (BitVec.ofNat 32 (4 * i.val)) sc (ix2 r l)
      = ((∑ k : Fin 8192, X (ix2 r k) * (((code (W (ix2 k l)) i.val : ℤ) : ℝ) : EReal))
          - R (ix2 r 0) * (((code (Z (ix1 l)) i.val : ℤ) : ℝ) : EReal)) * sc (ix1 l) := by
  pointwise [refPlane]
  have e : ∀ (φ : FTy) (b : BitVec 32), (FloatOps.sitofp φ b : Ideal φ) = ((b.toInt : ℝ) : EReal) := fun _ _ => rfl
  simp only [e, ref_code]

variable (V0 : Valuation τ sig (Elt Ideal))

/-- The activations. -/
def acts : FVec Ideal S96x1x8192 .bf16 := V0 (Proc.devRef .tc main_arg0)
/-- The packed weights. -/
def words : IVec S8192x896 32 := V0 (Proc.devRef .tc main_arg1)
/-- The packed zero points. -/
def zeros : IVec S896 32 := V0 (Proc.devRef .tc main_arg2)
/-- The scales. -/
def scales : FVec Ideal S7168 .bf16 := V0 (Proc.devRef .tc main_arg3)

/-- The activations without their axis of length one. -/
theorem rows_x (r : Fin 96) (k : Fin 8192) : (res_main_v0 V0 : FVec Ideal S96x8192 .bf16) (ix2 r k) = acts V0 (ix3 r 0 k) := by
  pointwise [res_main_v0, acts]

/-- The sums of the rows. -/
theorem rows_sum (r : Fin 96) (u : Fin 1) :
    (res_main_v3 V0 : FVec Ideal S96x1 .f32) (ix2 r u) = ∑ k : Fin 8192, acts V0 (ix3 r 0 k) := by
  pointwise [res_main_v3, res_main_v0, acts]

/-- The scales of the output columns at position `n` of each group of eight. -/
theorem scale_at (n : Fin 8) (h : S896x8.Slices ![0, n.val] S896x1) (l : Fin 896) :
    (shapeCast S896 (extractStridedSlice S896x1 ![0, n.val] (res_main_v5 V0) h) shapeCasts_S896x1_S896 : FVec Ideal S896 .f32)
      (ix1 l) = scales V0 (ix1 ⟨l.val * 8 + n.val, by omega⟩) := by
  pointwise [res_main_v5, scales]

/-- The product for position `n` of each group of eight, from nibble `i`, before the eight are put side by side. -/
def refPiece (n i : Fin 8) (h : S896x8.Slices ![0, n.val] S896x1) : FVec Ideal S96x896x1 .f32 :=
  broadcastInDim S96x896x1 ![0, 1] bcast_S96x896_S96x896x1_0_1
    (refPlane (res_main_v0 V0) (res_main_v3 V0) (words V0) (zeros V0) (BitVec.ofNat 32 (4 * i.val))
      (shapeCast S896 (extractStridedSlice S896x1 ![0, n.val] (res_main_v5 V0) h) shapeCasts_S896x1_S896))

/-- A plane with an axis of length one added holds the plane's entries. -/
theorem lift_at (y : FVec Ideal S96x896 .f32) (r : Fin 96) (l : Fin 896) (u : Fin 1) :
    broadcastInDim S96x896x1 ![0, 1] bcast_S96x896_S96x896x1_0_1 y (ix3 r l u) = y (ix2 r l) := by
  pointwise

/-- Every entry of such a product is `refVal` of its row and its column. -/
theorem refPiece_at (n i : Fin 8) (h : S896x8.Slices ![0, n.val] S896x1)
    (r : Fin 96) (l : Fin 896) (u : Fin 1) : refPiece V0 n i h (ix3 r l u)
    = refVal (fun k => acts V0 (ix3 r 0 k)) (fun k => words V0 (ix2 k l)) (zeros V0 (ix1 l))
        (scales V0 (ix1 ⟨l.val * 8 + n.val, by omega⟩)) i.val := by
  refine (lift_at _ r l u).trans ((refPlane_at _ _ _ _ i _ r l).trans ?_)
  rw [scale_at, rows_sum]
  simp only [rows_x]
  rfl

/-- The eight products side by side. -/
theorem stack_eq : (res_main_v182 V0 : FVec Ideal S96x896x8 .f32)
    = concatenate S96x896x8 2 [⟨S96x896x1, refPiece V0 0 0 slices_S896x8_S896x1_0_0⟩, ⟨S96x896x1, refPiece V0 1 4 slices_S896x8_S896x1_0_1⟩,
        ⟨S96x896x1, refPiece V0 2 1 slices_S896x8_S896x1_0_2⟩, ⟨S96x896x1, refPiece V0 3 5 slices_S896x8_S896x1_0_3⟩,
        ⟨S96x896x1, refPiece V0 4 2 slices_S896x8_S896x1_0_4⟩, ⟨S96x896x1, refPiece V0 5 6 slices_S896x8_S896x1_0_5⟩,
        ⟨S96x896x1, refPiece V0 6 3 slices_S896x8_S896x1_0_6⟩, ⟨S96x896x1, refPiece V0 7 7 slices_S896x8_S896x1_0_7⟩]
        concatenates_S96x896x1_S96x896x1_S96x896x1_S96x896x1_S96x896x1_S96x896x1_S96x896x1_S96x896x1_S96x896x8_d2 := rfl

/-- Entry `(r, l, j)` of the eight products side by side. -/
theorem stack_at (r : Fin 96) (l : Fin 896) (j : Fin 8) : (res_main_v182 V0 : FVec Ideal S96x896x8 .f32) (ix3 r l j)
    = refVal (fun k => acts V0 (ix3 r 0 k)) (fun k => words V0 (ix2 k l)) (zeros V0 (ix1 l))
        (scales V0 (ix1 ⟨l.val * 8 + j.val, by omega⟩)) (inv j).val := by
  rw [stack_eq]
  pointwise
  simp only [refPiece_at]
  fin_cases j <;> rfl

/-- Entry `(r, 0, q)` of the reference's result. -/
theorem ref_result (r : Fin 96) (q : Fin 7168) :
    (truncf .bf16 (shapeCast S96x1x7168 (res_main_v182 V0) shapeCasts_S96x896x8_S96x1x7168) bitsLt_bf16_f32
        : FVec Ideal S96x1x7168 .bf16) (ix3 r 0 q)
      = refVal (fun k => acts V0 (ix3 r 0 k)) (fun k => words V0 (ix2 k ⟨q.val / 8, by omega⟩))
          (zeros V0 (ix1 ⟨q.val / 8, by omega⟩))
          (scales V0 (ix1 ⟨q.val / 8 * 8 + q.val % 8, by omega⟩)) (inv ⟨q.val % 8, Nat.mod_lt _ (by omega)⟩).val := by
  refine Eq.trans ?_ (stack_at V0 r ⟨q.val / 8, by omega⟩ ⟨q.val % 8, Nat.mod_lt _ (by omega)⟩)
  pointwise

end Cert.Proof

end
-- ==== Proof.Equation.lean ====
/-
  The kernel's value and the reference's are equal when the activations are finite: the terms in 8 cancel.
-/
module

public import proofs.«01_k».proof.Proof.Block
public import proofs.«01_k».proof.Proof.Ref
public import proofs.«01_k».proof.Pre_finite

@[expose] public section
set_option maxRecDepth 16384

noncomputable section

namespace Cert.Proof
open Idealize.ShloMosaic

/-- A sum of real numbers is the same among the extended reals. -/
theorem coe_sum {ι : Type} (s : Finset ι) (a : ι → ℝ) : (∑ k ∈ s, (a k : EReal)) = ((∑ k ∈ s, a k : ℝ) : EReal) := by
  classical
  induction s using Finset.induction_on with
  | empty => simp
  | insert k s hk ih => rw [Finset.sum_insert hk, Finset.sum_insert hk, ih, EReal.coe_add]

/-- Reading every code eight too low, in the words and in the zero point, changes the two terms alike. -/
theorem cancel {ι : Type} (s : Finset ι) (a : ι → ℝ) (n : ι → ℤ) (z : ℤ) :
    (∑ k ∈ s, (a k : EReal) * (((n k - 8 : ℤ) : ℝ) : EReal)) - (∑ k ∈ s, (a k : EReal)) * (((z - 8 : ℤ) : ℝ) : EReal)
      = (∑ k ∈ s, (a k : EReal) * (((n k : ℤ) : ℝ) : EReal)) - (∑ k ∈ s, (a k : EReal)) * (((z : ℤ) : ℝ) : EReal) := by
  simp only [← EReal.coe_mul, coe_sum, ← EReal.coe_sub]
  congr 1
  push_cast
  simp only [mul_sub, Finset.sum_sub_distrib, ← Finset.sum_mul]
  ring

/-- The kernel's value is the reference's when the activations are finite, whatever the scale. -/
theorem kernelVal_eq (x : Fin 8192 → EReal) (hx : ∀ k, ∃ a : ℝ, x k = (a : EReal)) (w : Fin 8192 → BitVec 32)
    (z : BitVec 32) (s : EReal) (i : ℕ) : kernelVal x w z s i = refVal x w z s i := by
  choose a ha using hx
  unfold kernelVal refVal
  simp only [ha]
  exact congrArg (· * s) (cancel Finset.univ a (fun k => code (w k) i) (code z i))

/-- A value whose magnitude is less than `∞` is a real number. -/
theorem real_of_abs_lt (v : EReal) (h : max v (-v) < ⊤) : ∃ a : ℝ, v = (a : EReal) := by
  induction v with
  | bot => simp at h
  | coe a => exact ⟨a, rfl⟩
  | top => simp at h

/-- The precondition's shape fact. -/
theorem pre_facts : Cert.Pre_finite.Facts := ⟨by decide⟩

/-- Under the precondition every activation is a real number. -/
theorem finite_of_pre [Cert.Pre_finite.Facts] (x : FVec Ideal Cert.Pre_finite.S96x1x8192 .bf16)
    (w : IVec Cert.Pre_finite.S8192x896 32) (z : IVec Cert.Pre_finite.S896 32) (s : FVec Ideal Cert.Pre_finite.S7168 .bf16)
    (h : Cert.Pre_finite.fn (F := Ideal) x w z s = fun _ => 1#1) (y : Cert.Pre_finite.S96x1x8192.Idx) :
    ∃ a : ℝ, x y = (a : EReal) := by
  have hy := congrFun h y
  pointwise [Cert.Pre_finite.fn] at hy
  refine real_of_abs_lt (x y) ?_
  have htop : Ideal.ofBits .bf16 0x7F80#16 = ⊤ := by simp [Ideal.ofBits, Ideal.ieee]
  rw [htop] at hy
  by_contra hn
  exact absurd (hy.symm.trans (congrArg BitVec.ofBool (decide_eq_false hn))) (by decide)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Tail
public import proofs.«01_k».proof.Proof.Equation
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference terminates with its arguments as they were; it declares no semaphore. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => (h c).2, sem_eq_zero_of_no_sems (by decide) r.2⟩)
    (Cert.ReferenceIdeal.Value.run m g)

/-- With the same finite activations, words, zero points and scales the two results are one array. -/
theorem results_eq [Cert.Pre_finite.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    (truncf .bf16 (shapeCast Cert.ReferenceIdeal.S96x1x7168
        (Cert.ReferenceIdeal.Value.res_main_v182 (StableHlo.launchContents m' c))
        Cert.ReferenceIdeal.Gen.shapeCasts_S96x896x8_S96x1x7168) Cert.ReferenceIdeal.Gen.bitsLt_bf16_f32
        : FVec Ideal Cert.ReferenceIdeal.S96x1x7168 .bf16)
      = (Pipeline.afterTail₀ Cert.KernelIdeal.cfgs (Cert.KernelIdeal.Gen.dats m) 0 (Cert.KernelIdeal.Gen.V0 m)
          [Cert.KernelIdeal.Gen.hostOps1] c Cert.KernelIdeal.main_v37 : FVec Ideal Cert.KernelIdeal.S96x1x7168 .bf16) := by
  have hx := finite_of_pre _ _ _ _ (hpre c)
  funext y
  obtain ⟨r, q, rfl⟩ : ∃ (r : Fin 96) (q : Fin 7168), y = ix3 r 0 q :=
    ⟨y 0, y 2, (eq_ix3 y).trans (congrArg (fun u => ix3 (y 0) u (y 2)) (Subsingleton.elim (α := Fin 1) _ _))⟩
  refine (ref_result (StableHlo.launchContents m' c) r q).trans (Eq.trans ?_ (result m c r q).symm)
  unfold arrVal
  refine Eq.trans ?_ (kernelVal_eq _ (fun k => hx (ix3 r 0 k)) _ _ _ _).symm
  have e0 : acts (StableHlo.launchContents m' c) = m ((c.tc : Thread Cert.KernelIdeal.nD Cert.KernelIdeal.τ).loc Cert.KernelIdeal.main_arg0) := h0
  have e1 : words (StableHlo.launchContents m' c) = m ((c.tc : Thread Cert.KernelIdeal.nD Cert.KernelIdeal.τ).loc Cert.KernelIdeal.main_arg1) := h1
  have e2 : zeros (StableHlo.launchContents m' c) = m ((c.tc : Thread Cert.KernelIdeal.nD Cert.KernelIdeal.τ).loc Cert.KernelIdeal.main_arg2) := h2
  have e3 : scales (StableHlo.launchContents m' c) = m ((c.tc : Thread Cert.KernelIdeal.nD Cert.KernelIdeal.τ).loc Cert.KernelIdeal.main_arg3) := h3
  rw [e0, e1, e2, e3]
  simp only [awq_inv]

/-- From the same arguments, the activations finite, the kernel and the reference compute the same result. -/
theorem algebraic [Cert.Pre_finite.Facts] : Cert.algebraic_KernelIdeal_ReferenceIdeal_pre_finite := by
  pair_intro
  · run_from Cert.KernelIdeal.Gen.run_main m g
    · exact Cert.KernelIdeal.Gen.W_main_arg0 m _ c
    · exact Cert.KernelIdeal.Gen.W_main_arg2 m _ c
    · exact Cert.KernelIdeal.Gen.W_main_arg3 m _ c
  · run_from Cert.ReferenceIdeal.Value.run m' g'
    exact results_eq m m' hpre c (hagree c).1 (hagree c).2.1 (hagree c).2.2.1 (hagree c).2.2.2

theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ,
    fun m ρ _ => Cert.KernelIdeal.Gen.frame m ρ, fun m ρ _ => ref_frame m ρ, fun m ρ _ => ref_frame m ρ, trivial, @algebraic pre_facts⟩

end Cert.Proof

end
